-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x1024x1024 : Shape := ⟨4, ![32, 1, 1024, 1024]⟩
abbrev S2x1x1024x1024 : Shape := ⟨4, ![2, 1, 1024, 1024]⟩
abbrev S8x1 : Shape := ⟨2, ![8, 1]⟩
abbrev S8x1024 : Shape := ⟨2, ![8, 1024]⟩
abbrev S1x1x8x1024 : Shape := ⟨4, ![1, 1, 8, 1024]⟩
abbrev S1x1024 : Shape := ⟨2, ![1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .local _ .vmem, ⟨0, _⟩ => ⟨S2x1x1024x1024, .f32⟩
  | .local _ .vmem, ⟨1, _⟩ => ⟨S2x1x1024x1024, .f32⟩
  | .local _ .vmem, ⟨2, _⟩ => ⟨S2x1x1024x1024, .f32⟩
  | .local _ .vmem, ⟨3, _⟩ => ⟨S2x1x1024x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c128_i32 : BitVec 32 := 128#32
  let v2 : BitVec 32 := Scalar.addi c0_i32 c128_i32
  let c1_i32 : BitVec 32 := 1#32
  ⟨c0_i32, v2, c1_i32⟩
def k0_off1 (k0_t1 : Fin k0_t1_loop.trips) : Fin 4 → Nat :=
  let c0 : Index := 0#32
  let c0_8 : Index := 0#32
  let c0_i32 : BitVec 32 := 0#32
  let c1_i32 : BitVec 32 := 1#32
  let arg3 : BitVec 32 := Scf.iv c0_i32 c1_i32 k0_t1
  let c8_i32 : BitVec 32 := 8#32
  let v7 : BitVec 32 := Scalar.muli arg3 c8_i32
  let v8 : Index := Scalar.indexCast v7
  let c0_9 : Index := 0#32
  ![0, 0, v8.toNat, 0]
@[reducible] def k0_t2_loop : Scf.Loop 32 :=
  let c0_i32_4 : BitVec 32 := 0#32
  let c128_i32_5 : BitVec 32 := 128#32
  let v5 : BitVec 32 := Scalar.addi c0_i32_4 c128_i32_5
  let c1_i32_6 : BitVec 32 := 1#32
  ⟨c0_i32_4, v5, c1_i32_6⟩
def k0_off2 (k0_t2 : Fin k0_t2_loop.trips) : Fin 4 → Nat :=
  let c1 : Index := 1#32
  let c0 : Index := 0#32
  let c0_i32_4 : BitVec 32 := 0#32
  let c1_i32_6 : BitVec 32 := 1#32
  let arg3 : BitVec 32 := Scf.iv c0_i32_4 c1_i32_6 k0_t2
  let c8_i32 : BitVec 32 := 8#32
  let v7 : BitVec 32 := Scalar.muli arg3 c8_i32
  let v8 : Index := Scalar.indexCast v7
  let c0_8 : Index := 0#32
  ![1, 0, v8.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32x1x1024x1024 : Shape := ⟨4, ![32, 1, 1024, 1024]⟩
abbrev S32x1x512x1024 : Shape := ⟨4, ![32, 1, 512, 1024]⟩
abbrev S32x1x256x1024 : Shape := ⟨4, ![32, 1, 256, 1024]⟩
abbrev S32x1x128x1024 : Shape := ⟨4, ![32, 1, 128, 1024]⟩
abbrev S32x1x64x1024 : Shape := ⟨4, ![32, 1, 64, 1024]⟩
abbrev S32x1x32x1024 : Shape := ⟨4, ![32, 1, 32, 1024]⟩
abbrev S32x1x16x1024 : Shape := ⟨4, ![32, 1, 16, 1024]⟩
abbrev S32x1x8x1024 : Shape := ⟨4, ![32, 1, 8, 1024]⟩
abbrev S32x1x4x1024 : Shape := ⟨4, ![32, 1, 4, 1024]⟩
abbrev S32x1x2x1024 : Shape := ⟨4, ![32, 1, 2, 1024]⟩
abbrev S32x1x1x1024 : Shape := ⟨4, ![32, 1, 1, 1024]⟩
abbrev S32x1x0x1024 : Shape := ⟨4, ![32, 1, 0, 1024]⟩
abbrev S_ : Shape := ⟨0, ![]⟩
abbrev S32x1x3x1024 : Shape := ⟨4, ![32, 1, 3, 1024]⟩
abbrev S32x1x7x1024 : Shape := ⟨4, ![32, 1, 7, 1024]⟩
abbrev S32x1x15x1024 : Shape := ⟨4, ![32, 1, 15, 1024]⟩
abbrev S32x1x31x1024 : Shape := ⟨4, ![32, 1, 31, 1024]⟩
abbrev S32x1x63x1024 : Shape := ⟨4, ![32, 1, 63, 1024]⟩
abbrev S32x1x127x1024 : Shape := ⟨4, ![32, 1, 127, 1024]⟩
abbrev S32x1x255x1024 : Shape := ⟨4, ![32, 1, 255, 1024]⟩
abbrev S32x1x511x1024 : Shape := ⟨4, ![32, 1, 511, 1024]⟩

abbrev nBuf : Space → Nat
  | .hbm => 131
  | .vmem => 0
  | .smem => 0
  | _ => 0

abbrev hbmTy0_0 (i : Nat) : BufTy := match i % 128 with
  | 0 => ⟨S32x1x1024x1024, .f32⟩
  | 1 => ⟨S32x1x512x1024, .f32⟩
  | 2 => ⟨S32x1x512x1024, .f32⟩
  | 3 => ⟨S32x1x512x1024, .f32⟩
  | 4 => ⟨S32x1x256x1024, .f32⟩
  | 5 => ⟨S32x1x256x1024, .f32⟩
  | 6 => ⟨S32x1x256x1024, .f32⟩
  | 7 => ⟨S32x1x128x1024, .f32⟩
  | 8 => ⟨S32x1x128x1024, .f32⟩
  | 9 => ⟨S32x1x128x1024, .f32⟩
  | 10 => ⟨S32x1x64x1024, .f32⟩
  | 11 => ⟨S32x1x64x1024, .f32⟩
  | 12 => ⟨S32x1x64x1024, .f32⟩
  | 13 => ⟨S32x1x32x1024, .f32⟩
  | 14 => ⟨S32x1x32x1024, .f32⟩
  | 15 => ⟨S32x1x32x1024, .f32⟩
  | 16 => ⟨S32x1x16x1024, .f32⟩
  | 17 => ⟨S32x1x16x1024, .f32⟩
  | 18 => ⟨S32x1x16x1024, .f32⟩
  | 19 => ⟨S32x1x8x1024, .f32⟩
  | 20 => ⟨S32x1x8x1024, .f32⟩
  | 21 => ⟨S32x1x8x1024, .f32⟩
  | 22 => ⟨S32x1x4x1024, .f32⟩
  | 23 => ⟨S32x1x4x1024, .f32⟩
  | 24 => ⟨S32x1x4x1024, .f32⟩
  | 25 => ⟨S32x1x2x1024, .f32⟩
  | 26 => ⟨S32x1x2x1024, .f32⟩
  | 27 => ⟨S32x1x2x1024, .f32⟩
  | 28 => ⟨S32x1x1x1024, .f32⟩
  | 29 => ⟨S32x1x1x1024, .f32⟩
  | 30 => ⟨S32x1x1x1024, .f32⟩
  | 31 => ⟨S32x1x0x1024, .f32⟩
  | 32 => ⟨S32x1x0x1024, .f32⟩
  | 33 => ⟨S32x1x0x1024, .f32⟩
  | 34 => ⟨S32x1x1x1024, .f32⟩
  | 35 => ⟨S32x1x1x1024, .f32⟩
  | 36 => ⟨S_, .f32⟩
  | 37 => ⟨S32x1x2x1024, .f32⟩
  | 38 => ⟨S_, .f32⟩
  | 39 => ⟨S32x1x2x1024, .f32⟩
  | 40 => ⟨S32x1x2x1024, .f32⟩
  | 41 => ⟨S32x1x1x1024, .f32⟩
  | 42 => ⟨S32x1x1x1024, .f32⟩
  | 43 => ⟨S32x1x1x1024, .f32⟩
  | 44 => ⟨S32x1x1x1024, .f32⟩
  | 45 => ⟨S32x1x2x1024, .f32⟩
  | 46 => ⟨S_, .f32⟩
  | 47 => ⟨S32x1x4x1024, .f32⟩
  | 48 => ⟨S_, .f32⟩
  | 49 => ⟨S32x1x4x1024, .f32⟩
  | 50 => ⟨S32x1x4x1024, .f32⟩
  | 51 => ⟨S32x1x3x1024, .f32⟩
  | 52 => ⟨S32x1x3x1024, .f32⟩
  | 53 => ⟨S32x1x3x1024, .f32⟩
  | 54 => ⟨S32x1x1x1024, .f32⟩
  | 55 => ⟨S32x1x4x1024, .f32⟩
  | 56 => ⟨S_, .f32⟩
  | 57 => ⟨S32x1x8x1024, .f32⟩
  | 58 => ⟨S_, .f32⟩
  | 59 => ⟨S32x1x8x1024, .f32⟩
  | 60 => ⟨S32x1x8x1024, .f32⟩
  | 61 => ⟨S32x1x7x1024, .f32⟩
  | 62 => ⟨S32x1x7x1024, .f32⟩
  | 63 => ⟨S32x1x7x1024, .f32⟩
  | 64 => ⟨S32x1x1x1024, .f32⟩
  | 65 => ⟨S32x1x8x1024, .f32⟩
  | 66 => ⟨S_, .f32⟩
  | 67 => ⟨S32x1x16x1024, .f32⟩
  | 68 => ⟨S_, .f32⟩
  | 69 => ⟨S32x1x16x1024, .f32⟩
  | 70 => ⟨S32x1x16x1024, .f32⟩
  | 71 => ⟨S32x1x15x1024, .f32⟩
  | 72 => ⟨S32x1x15x1024, .f32⟩
  | 73 => ⟨S32x1x15x1024, .f32⟩
  | 74 => ⟨S32x1x1x1024, .f32⟩
  | 75 => ⟨S32x1x16x1024, .f32⟩
  | 76 => ⟨S_, .f32⟩
  | 77 => ⟨S32x1x32x1024, .f32⟩
  | 78 => ⟨S_, .f32⟩
  | 79 => ⟨S32x1x32x1024, .f32⟩
  | 80 => ⟨S32x1x32x1024, .f32⟩
  | 81 => ⟨S32x1x31x1024, .f32⟩
  | 82 => ⟨S32x1x31x1024, .f32⟩
  | 83 => ⟨S32x1x31x1024, .f32⟩
  | 84 => ⟨S32x1x1x1024, .f32⟩
  | 85 => ⟨S32x1x32x1024, .f32⟩
  | 86 => ⟨S_, .f32⟩
  | 87 => ⟨S32x1x64x1024, .f32⟩
  | 88 => ⟨S_, .f32⟩
  | 89 => ⟨S32x1x64x1024, .f32⟩
  | 90 => ⟨S32x1x64x1024, .f32⟩
  | 91 => ⟨S32x1x63x1024, .f32⟩
  | 92 => ⟨S32x1x63x1024, .f32⟩
  | 93 => ⟨S32x1x63x1024, .f32⟩
  | 94 => ⟨S32x1x1x1024, .f32⟩
  | 95 => ⟨S32x1x64x1024, .f32⟩
  | 96 => ⟨S_, .f32⟩
  | 97 => ⟨S32x1x128x1024, .f32⟩
  | 98 => ⟨S_, .f32⟩
  | 99 => ⟨S32x1x128x1024, .f32⟩
  | 100 => ⟨S32x1x128x1024, .f32⟩
  | 101 => ⟨S32x1x127x1024, .f32⟩
  | 102 => ⟨S32x1x127x1024, .f32⟩
  | 103 => ⟨S32x1x127x1024, .f32⟩
  | 104 => ⟨S32x1x1x1024, .f32⟩
  | 105 => ⟨S32x1x128x1024, .f32⟩
  | 106 => ⟨S_, .f32⟩
  | 107 => ⟨S32x1x256x1024, .f32⟩
  | 108 => ⟨S_, .f32⟩
  | 109 => ⟨S32x1x256x1024, .f32⟩
  | 110 => ⟨S32x1x256x1024, .f32⟩
  | 111 => ⟨S32x1x255x1024, .f32⟩
  | 112 => ⟨S32x1x255x1024, .f32⟩
  | 113 => ⟨S32x1x255x1024, .f32⟩
  | 114 => ⟨S32x1x1x1024, .f32⟩
  | 115 => ⟨S32x1x256x1024, .f32⟩
  | 116 => ⟨S_, .f32⟩
  | 117 => ⟨S32x1x512x1024, .f32⟩
  | 118 => ⟨S_, .f32⟩
  | 119 => ⟨S32x1x512x1024, .f32⟩
  | 120 => ⟨S32x1x512x1024, .f32⟩
  | 121 => ⟨S32x1x511x1024, .f32⟩
  | 122 => ⟨S32x1x511x1024, .f32⟩
  | 123 => ⟨S32x1x511x1024, .f32⟩
  | 124 => ⟨S32x1x1x1024, .f32⟩
  | 125 => ⟨S32x1x512x1024, .f32⟩
  | 126 => ⟨S_, .f32⟩
  | 127 => ⟨S32x1x1024x1024, .f32⟩
  | _ => ⟨S32x1x1024x1024, .f32⟩

abbrev hbmTy0_1 (i : Nat) : BufTy := match i % 128 with
  | 0 => ⟨S_, .f32⟩
  | 1 => ⟨S32x1x1024x1024, .f32⟩
  | 2 => ⟨S32x1x1024x1024, .f32⟩
  | _ => ⟨S32x1x1024x1024, .f32⟩

abbrev hbmTy (i : Nat) : BufTy := match i / 128 with
  | 0 => hbmTy0_0 i
  | 1 => hbmTy0_1 i
  | _ => ⟨S32x1x1024x1024, .f32⟩

abbrev bufTy : (tb : Table) → Fin (tcTables nBuf tb) → BufTy
  | .hbm, ⟨i, _⟩ => hbmTy i
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_cst : Ref sig .tc := ⟨.hbm, 36, rfl⟩
abbrev main_v35 : Ref sig .tc := ⟨.hbm, 37, rfl⟩
abbrev main_cst_0 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_cst_1 : Ref sig .tc := ⟨.hbm, 46, rfl⟩
abbrev main_v43 : Ref sig .tc := ⟨.hbm, 47, rfl⟩
abbrev main_cst_2 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_cst_3 : Ref sig .tc := ⟨.hbm, 56, rfl⟩
abbrev main_v51 : Ref sig .tc := ⟨.hbm, 57, rfl⟩
abbrev main_cst_4 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_cst_5 : Ref sig .tc := ⟨.hbm, 66, rfl⟩
abbrev main_v59 : Ref sig .tc := ⟨.hbm, 67, rfl⟩
abbrev main_cst_6 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_7 : Ref sig .tc := ⟨.hbm, 76, rfl⟩
abbrev main_v67 : Ref sig .tc := ⟨.hbm, 77, rfl⟩
abbrev main_cst_8 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_9 : Ref sig .tc := ⟨.hbm, 86, rfl⟩
abbrev main_v75 : Ref sig .tc := ⟨.hbm, 87, rfl⟩
abbrev main_cst_10 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_11 : Ref sig .tc := ⟨.hbm, 96, rfl⟩
abbrev main_v83 : Ref sig .tc := ⟨.hbm, 97, rfl⟩
abbrev main_cst_12 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_cst_13 : Ref sig .tc := ⟨.hbm, 106, rfl⟩
abbrev main_v91 : Ref sig .tc := ⟨.hbm, 107, rfl⟩
abbrev main_cst_14 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_cst_15 : Ref sig .tc := ⟨.hbm, 116, rfl⟩
abbrev main_v99 : Ref sig .tc := ⟨.hbm, 117, rfl⟩
abbrev main_cst_16 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_17 : Ref sig .tc := ⟨.hbm, 126, rfl⟩
abbrev main_v107 : Ref sig .tc := ⟨.hbm, 127, rfl⟩
abbrev main_cst_18 : Ref sig .tc := ⟨.hbm, 128, rfl⟩
abbrev main_v108 : Ref sig .tc := ⟨.hbm, 129, rfl⟩
abbrev main_v109 : Ref sig .tc := ⟨.hbm, 130, rfl⟩

abbrev nD : Nat := 1
abbrev τ : Topo := Topo.v7x

variable {F : FTy → Type} [FloatOps F]
-- ==== Proof.Prefix.lean ====
/-
  THE MATHEMATICS, on no array: the prefix maximum of a sequence of extended reals, and the three ways the two
  programs build it — block by block with a carry (`prefMax_add`), by doubling windows inside a block (`winMax_double`),
  and by pairs, on half the sequence (`prefMax_pair`).
-/
module

public import Mathlib.Data.EReal.Basic
public import Mathlib.Data.Finset.Lattice.Fold
public import Mathlib.Order.Interval.Finset.Nat

@[expose] public section

namespace CumMax

/-- The maximum of the first `k` terms of `f`; of none, `-∞`. -/
noncomputable def prefMax (f : ℕ → EReal) (k : ℕ) : EReal := (Finset.range k).sup f

/-- The maximum of the (at most) `w` terms of `f` that end at term `r`. -/
noncomputable def winMax (f : ℕ → EReal) (w r : ℕ) : EReal := (Finset.Ico (r + 1 - w) (r + 1)).sup f

/-- No term: `-∞`. -/
theorem prefMax_zero (f : ℕ → EReal) : prefMax f 0 = ⊥ := rfl

/-- One term more. -/
theorem prefMax_succ (f : ℕ → EReal) (k : ℕ) : prefMax f (k + 1) = max (prefMax f k) (f k) := by
  unfold prefMax
  rw [Finset.range_add_one, Finset.sup_insert, max_comm]

/-- One term: itself. -/
theorem prefMax_one (f : ℕ → EReal) : prefMax f 1 = f 0 := by
  rw [prefMax_succ, prefMax_zero]; exact max_eq_right bot_le

/-- Only the terms counted matter. -/
theorem prefMax_congr {f g : ℕ → EReal} {k : ℕ} (h : ∀ j, j < k → f j = g j) : prefMax f k = prefMax g k :=
  Finset.sup_congr rfl fun j hj => h j (Finset.mem_range.mp hj)

/-- The first `a + b` terms: the first `a`, then the `b` that follow them. -/
theorem prefMax_add (f : ℕ → EReal) (a b : ℕ) :
    prefMax f (a + b) = max (prefMax f a) (prefMax (fun j => f (a + j)) b) := by
  induction b with
  | zero => rw [prefMax_zero]; exact (max_eq_left bot_le).symm
  | succ b ih => rw [← Nat.add_assoc, prefMax_succ, prefMax_succ, ih, max_assoc]

/-- The maxima of `k` consecutive pairs have the maximum of the first `2 k` terms. -/
theorem prefMax_pair (f : ℕ → EReal) (k : ℕ) :
    prefMax (fun j => max (f (2 * j)) (f (2 * j + 1))) k = prefMax f (2 * k) := by
  induction k with
  | zero => rfl
  | succ k ih =>
    rw [prefMax_succ, ih, show 2 * (k + 1) = 2 * k + 1 + 1 by omega, prefMax_succ, prefMax_succ, max_assoc]

/-- A window of one term is the term. -/
theorem winMax_one (f : ℕ → EReal) (r : ℕ) : winMax f 1 r = f r := by
  unfold winMax
  rw [Nat.add_sub_cancel, Nat.Ico_succ_singleton, Finset.sup_singleton]

/-- A window and the one of the same width that ends where it begins — none when it begins at term 0 — make the
    window of twice the width. -/
theorem winMax_double (f : ℕ → EReal) (w r : ℕ) :
    max (winMax f w r) (if w ≤ r then winMax f w (r - w) else ⊥) = winMax f (2 * w) r := by
  unfold winMax
  split
  · rename_i h
    rw [show r + 1 - w = r - w + 1 by omega, show r - w + 1 - w = r + 1 - 2 * w by omega, max_comm]
    refine (Finset.sup_union).symm.trans ?_
    rw [Finset.Ico_union_Ico_eq_Ico (by omega) (by omega)]
  · rename_i h
    rw [show r + 1 - w = 0 by omega, show r + 1 - 2 * w = 0 by omega]
    exact max_eq_left bot_le

/-- A window at least as wide as what is before it is the prefix. -/
theorem winMax_wide (f : ℕ → EReal) (w r : ℕ) (h : r < w) : winMax f w r = prefMax f (r + 1) := by
  unfold winMax prefMax
  rw [show r + 1 - w = 0 by omega, Finset.range_eq_Ico]

end CumMax

end
-- ==== Proof.Columns.lean ====
/-
  THE ARRAYS both programs work on — images of one channel, some rows and 1024 columns —, their columns as sequences,
  and what both are to compute: at each row, the maximum of the column down to that row.
-/
module

public import proofs.«01_k».proof.Proof.Prefix
public import Idealize.ShloMosaic.Lib.ValueIdxCore

@[expose] public section

namespace CumMax

open Idealize.ShloMosaic Idealize.ShloMosaic.ValueIdx

/-- An array of `B` images of one channel, `n` rows and 1024 columns. -/
abbrev rows (B n : ℕ) : Shape := ⟨4, ![B, 1, n, 1024]⟩

/-- Column `c` of image `b` as a sequence (`-∞` past the last row). -/
noncomputable def col {B n : ℕ} (x : (rows B n).Idx → EReal) (b : Fin B) (c : Fin 1024) (k : ℕ) : EReal :=
  if h : k < n then x (ix4 b 0 ⟨k, h⟩ c) else ⊥

/-- A row that exists is read. -/
theorem col_of_lt {B n : ℕ} (x : (rows B n).Idx → EReal) (b : Fin B) (c : Fin 1024) {k : ℕ} (h : k < n) :
    col x b c k = x (ix4 b 0 ⟨k, h⟩ c) := dif_pos h

/-- The array of prefix maxima: at row `j` of a column, the maximum of the column's rows down to `j`. -/
noncomputable def prefArr {B n : ℕ} (x : (rows B n).Idx → EReal) : (rows B n).Idx → EReal :=
  fun i => prefMax (col x (i 0) (i 3)) ((i 2).val + 1)

/-- `s` holds, at every row of every column, the maximum of `x`'s rows down to that one. -/
def IsPrefMax {B n : ℕ} (x s : (rows B n).Idx → EReal) : Prop :=
  ∀ (b : Fin B) (j : Fin n) (c : Fin 1024), s (ix4 b 0 j c) = prefMax (col x b c) (j.val + 1)

/-- An array that holds the prefix maxima is the array of prefix maxima. -/
theorem IsPrefMax.eq {B n : ℕ} {x s : (rows B n).Idx → EReal} (h : IsPrefMax x s) : s = prefArr x := by
  funext i
  have h1 : i 1 = (0 : Fin 1) := Subsingleton.elim (α := Fin 1) _ _
  have e : i = ix4 (i 0) 0 (i 2) (i 3) := by
    funext a
    match a with
    | ⟨0, _⟩ => rfl
    | ⟨1, _⟩ => exact h1
    | ⟨2, _⟩ => rfl
    | ⟨3, _⟩ => rfl
  exact (congrArg s e).trans (h (i 0) (i 2) (i 3))

/-- An array of one row is its own prefix maximum. -/
theorem isPrefMax_one {B : ℕ} (x : (rows B 1).Idx → EReal) : IsPrefMax x x := fun b j c => by
  obtain rfl : j = 0 := Subsingleton.elim _ _
  exact ((prefMax_one _).trans (col_of_lt x b c Nat.one_pos)).symm

end CumMax

end
-- ==== Proof.Tile.lean ====
/-
  ONE TILE of eight rows, as the kernel's loop body computes it: three shift-and-maximum steps that double a window of
  rows (by 1, 2 and 4), then the maximum with the carry. `tile_apply` states the result: the maximum of the tile's rows
  down to each row, and of the carry.
-/
module

public import proofs.«01_k».proof.Proof.Columns
public import proofs.«01_k».proof.Proof.Gen.KernelIdeal.Skeleton
public import Idealize.ShloMosaic.Lib.KernelVsHost
public import Idealize.ShloMosaic.Lib.Pointwise.Reduce
public import Idealize.ShloMosaic.Lib.ValueIdx
public import Idealize.ShloMosaic.Lib.IdealHost

@[expose] public section

namespace CumMax

open Idealize.ShloMosaic hiding ix2 ix4
open Idealize.ShloMosaic.ValueIdx Cert.KernelIdeal Cert.KernelIdeal.Gen

/-- The word the kernel fills with, read as a number: `-∞`. -/
theorem fill_eq : (Scalar.ofBits (F := Ideal) .f32 0xFF800000#32 : EReal) = ⊥ := by
  show Ideal.ofBits .f32 0xFF800000#32 = ⊥
  simp [Ideal.ofBits, Ideal.ieee]

/-- The mask of a step: row `r` of eight is at or past row `s`. -/
theorem mask_word : ∀ r s : Fin 8,
    IntOp.cmpi .sge (BitVec.ofNat 32 r.val) (BitVec.ofNat 32 s.val) = if s.val ≤ r.val then 1#1 else 0#1 := by decide

/-- One shift-and-maximum step by `sb` rows: each row with the row `sb` before it, rows before the tile's first
    reading the fill. -/
noncomputable abbrev shiftMax (sb : BitVec 32) (y : FVec Ideal S8x1024 .f32) : FVec Ideal S8x1024 .f32 :=
  maximumf y (select (broadcastTo S8x1024
      (shapeCast S8x1 (cmpi .sge (iota .tc S8x1 32 [0] iota_S8x1_d0_w32) (broadcast S8x1 sb)) shapeCasts_S8x1_S8x1)
      broadcasts_S8x1_S8x1024)
    (dynamicRotate 0 sb none y rotates_S8x1024_d0) (broadcast S8x1024 (Scalar.ofBits .f32 0xFF800000#32)))

/-- A step at row `r`. -/
theorem shiftMax_apply (s : Fin 8) (y : FVec Ideal S8x1024 .f32) (r : Fin 8) (c : Fin 1024) :
    shiftMax (BitVec.ofNat 32 s.val) y (ix2 r c)
      = max (y (ix2 r c) : EReal) (if s.val ≤ r.val then y (ix2 (⟨r.val - s.val, by omega⟩ : Fin 8) c) else ⊥) := by
  have hc : broadcastTo S8x1024 (shapeCast S8x1 (cmpi .sge (iota .tc S8x1 32 [0] iota_S8x1_d0_w32)
      (broadcast S8x1 (BitVec.ofNat 32 s.val))) shapeCasts_S8x1_S8x1) broadcasts_S8x1_S8x1024 (ix2 r c)
      = if s.val ≤ r.val then 1#1 else 0#1 := by
    rw [broadcastTo_apply _ _ (ix2 r c) (ix2 r (0 : Fin 1)) (fun a => by
      match a with
      | ⟨0, _⟩ => rfl
      | ⟨1, _⟩ => rfl), shapeCast_self, ← mask_word]
    show IntOp.cmpi .sge (iota .tc S8x1 32 [0] iota_S8x1_d0_w32 (ix2 r (0 : Fin 1))) _ = _
    rw [iota_single_apply]
    rfl
  show max (y (ix2 r c) : EReal) (Scalar.select (broadcastTo S8x1024 (shapeCast S8x1
      (cmpi .sge (iota .tc S8x1 32 [0] iota_S8x1_d0_w32) (broadcast S8x1 (BitVec.ofNat 32 s.val))) shapeCasts_S8x1_S8x1)
      broadcasts_S8x1_S8x1024 (ix2 r c)) (dynamicRotate 0 (BitVec.ofNat 32 s.val) none y rotates_S8x1024_d0 (ix2 r c))
      (Scalar.ofBits (F := Ideal) .f32 0xFF800000#32)) = _
  rw [hc]
  by_cases h : s.val ≤ r.val
  · rw [if_pos h, if_pos h, select_one, dynamicRotate_apply 0 _ y _ (ix2 r c)
      (ix2 (⟨r.val - s.val, by omega⟩ : Fin 8) c) (fun b => by
        match b with
        | ⟨0, _⟩ =>
          have h1 := s.isLt
          have h2 := r.isLt
          show r.val - s.val = (r.val + 8 - (s.val % 2 ^ 32) % 8) % 8
          omega
        | ⟨1, _⟩ => rfl)]
  · rw [if_neg h, if_neg h, select_zero, fill_eq]

/-- If each row holds its column's window of width `s`, a step by `s` doubles the width. -/
theorem shiftMax_window (s : Fin 8) (y : FVec Ideal S8x1024 .f32) (g : Fin 1024 → ℕ → EReal)
    (hy : ∀ (r : Fin 8) (c : Fin 1024), y (ix2 r c) = winMax (g c) s.val r.val) (r : Fin 8) (c : Fin 1024) :
    shiftMax (BitVec.ofNat 32 s.val) y (ix2 r c) = winMax (g c) (2 * s.val) r.val := by
  rw [shiftMax_apply, ← winMax_double, hy]
  by_cases h : s.val ≤ r.val
  · rw [if_pos h, if_pos h, hy]
  · rw [if_neg h, if_neg h]

/-- The loop body's value is three steps and the maximum with the carry (both loops compute the same). -/
theorem pay2_eq (acc : FVec Ideal S8x1024 .f32) (t : FVec Ideal S1x1x8x1024 .f32) :
    k0_pay2 acc t
      = maximumf (shiftMax 4#32 (shiftMax 2#32 (shiftMax 1#32 (shapeCast S8x1024 t shapeCasts_S1x1x8x1024_S8x1024))))
          acc := rfl

/-- ONE TILE: at row `r`, the maximum of the tile's rows down to `r`, and of the carry. -/
theorem tile_apply (acc : FVec Ideal S8x1024 .f32) (t : FVec Ideal S1x1x8x1024 .f32) (g : Fin 1024 → ℕ → EReal)
    (ht : ∀ (r : Fin 8) (c : Fin 1024), t (ix4 0 0 r c) = g c r.val) (r : Fin 8) (c : Fin 1024) :
    k0_pay2 acc t (ix2 r c) = max (acc (ix2 r c) : EReal) (prefMax (g c) (r.val + 1)) := by
  have h1 : ∀ (r : Fin 8) (c : Fin 1024),
      shapeCast S8x1024 t shapeCasts_S1x1x8x1024_S8x1024 (ix2 r c) = winMax (g c) 1 r.val := fun r c => by
    rw [winMax_one, ← ht]
    refine shapeCast_apply t _ (ix2 r c) (ix4 (0 : Fin 1) (0 : Fin 1) r c) ?_
    rw [Shape.rowMajor_val_four, Shape.rowMajor_val_two]
    show ((0 * 1 + 0) * 8 + r.val) * 1024 + c.val = r.val * 1024 + c.val
    omega
  have h2 := shiftMax_window 1 _ g h1
  have h4 := shiftMax_window 2 _ g h2
  have h8 := shiftMax_window 4 _ g h4 r c
  have h8' := h8.trans (winMax_wide (g c) (2 * 4) r.val (by omega))
  rw [pay2_eq, max_comm, ← h8']
  rfl

/-- What a tile stores is its value. -/
theorem pay3_apply (acc : FVec Ideal S8x1024 .f32) (t : FVec Ideal S1x1x8x1024 .f32) (r : Fin 8) (c : Fin 1024) :
    k0_pay3 acc t (ix4 0 0 r c) = k0_pay2 acc t (ix2 r c) := by
  refine shapeCast_apply (k0_pay2 acc t) shapeCasts_S8x1024_S1x1x8x1024 (ix4 (0 : Fin 1) (0 : Fin 1) r c) (ix2 r c) ?_
  rw [Shape.rowMajor_val_four, Shape.rowMajor_val_two]
  show r.val * 1024 + c.val = ((0 * 1 + 0) * 8 + r.val) * 1024 + c.val
  omega

/-- What a tile carries on, in every row, is its last row. -/
theorem pay4_apply (acc : FVec Ideal S8x1024 .f32) (t : FVec Ideal S1x1x8x1024 .f32) (r : Fin 8) (c : Fin 1024) :
    k0_pay4 acc t (ix2 r c) = k0_pay2 acc t (ix2 7 c) := by
  show broadcastTo S8x1024 (shapeCast S1x1024 (extractStridedSlice S1x1024 ![7, 0] (k0_pay2 acc t)
    slices_S8x1024_o7_0_S1x1024) shapeCasts_S1x1024_S1x1024) broadcasts_S1x1024_S8x1024 (ix2 r c) = _
  rw [broadcastTo_apply _ _ (ix2 r c) (ix2 (0 : Fin 1) c) (fun a => by
      match a with
      | ⟨0, _⟩ => rfl
      | ⟨1, _⟩ => rfl), shapeCast_self]
  exact extractStridedSlice_apply ![7, 0] _ _ (ix2 (0 : Fin 1) c) (ix2 (7 : Fin 8) c) fun a => by
    match a with
    | ⟨0, _⟩ => rfl
    | ⟨1, _⟩ => exact (Nat.zero_add _).symm

/-- The first carry is `-∞`. -/
theorem pay1_apply (r : Fin 8) (c : Fin 1024) : (k0_pay1 (F := Ideal) (ix2 r c) : EReal) = ⊥ := fill_eq

end CumMax

end
-- ==== Proof.Block.lean ====
/-
  ONE BLOCK of two images, as a grid point computes it: each image's 128 tiles in order, the carry from tile to tile the
  maximum of the rows before. `out_eq` states the result: the block's prefix maxima.
-/
module

public import proofs.«01_k».proof.Proof.Tile
public import proofs.«01_k».proof.Proof.Gen.KernelIdeal.Frame
public import Idealize.ShloMosaic.Lib.Pipeline.Value
public import Idealize.ShloMosaic.Lib.Tactic

@[expose] public section

set_option maxRecDepth 16384

namespace CumMax

open Idealize.ShloMosaic hiding ix2 ix4
open Idealize.ShloMosaic.TcCoe Idealize.ShloMosaic.Tactic Idealize.ShloMosaic.ValueIdx Idealize.SL.Sem
open Cert.KernelIdeal Cert.KernelIdeal.Gen

/-- Before tile `k` of image `q`, the carry is in every row the maximum of the `8 k` rows before. -/
def CarryAt (X : FVec Ideal S2x1x1024x1024 .f32) (q : Fin 2) (k : ℕ) (acc : FVec Ideal S8x1024 .f32) : Prop :=
  ∀ (r : Fin 8) (c : Fin 1024), acc (ix2 r c) = prefMax (col X q c) (8 * k)

/-- Before the first tile it is `-∞`. -/
theorem carryAt_zero (X : FVec Ideal S2x1x1024x1024 .f32) (q : Fin 2) : CarryAt X q 0 k0_pay1 := fun r c =>
  pay1_apply r c

section Tile

variable (X : FVec Ideal S2x1x1024x1024 .f32) (q : Fin 2) (k : ℕ) (hk : k < 128) {off : Fin 4 → ℕ}
  (inb : ∀ a, off a + (![1, 1, 8, 1024] : Fin 4 → ℕ) a ≤ S2x1x1024x1024.size a) (hoff : off = ![q.val, 0, 8 * k, 0])
include hk hoff

/-- Where row `r` of tile `k` of image `q` lies in the block: row `8 k + r`. -/
theorem tile_emb (r : Fin 8) (c : Fin 1024) :
    (Rect.unit (s := S2x1x1024x1024) off ![1, 1, 8, 1024] inb).emb (ix4 (0 : Fin 1) (0 : Fin 1) r c)
      = ix4 q (0 : Fin 1) (⟨8 * k + r.val, by omega⟩ : Fin 1024) c := by
  subst hoff
  refine funext fun a => Fin.ext ?_
  match a with
  | ⟨0, _⟩ => rfl
  | ⟨1, _⟩ => rfl
  | ⟨2, _⟩ => show 8 * k + 1 * r.val = 8 * k + r.val; omega
  | ⟨3, _⟩ => show 0 + 1 * c.val = c.val; omega

/-- The tile loaded, by its column's rows. -/
theorem tile_load (r : Fin 8) (c : Fin 1024) :
    View.ld (Val := Elt Ideal) (e' := .f32) X (Rect.unit off ![1, 1, 8, 1024] inb) (ix4 (0 : Fin 1) (0 : Fin 1) r c)
      = col X q c (8 * k + r.val) := by
  rw [col_of_lt X q c (show 8 * k + r.val < 1024 by omega)]
  exact congrArg X (tile_emb q k hk inb hoff r c)

/-- The value of a tile at row `r`: the maximum of the column's rows down to row `8 k + r`. -/
theorem tile_value {acc : FVec Ideal S8x1024 .f32} (hacc : CarryAt X q k acc) (r : Fin 8) (c : Fin 1024) :
    k0_pay2 acc (View.ld (Val := Elt Ideal) (e' := .f32) X (Rect.unit off ![1, 1, 8, 1024] inb)) (ix2 r c)
      = prefMax (col X q c) (8 * k + (r.val + 1)) := by
  rw [tile_apply acc _ (fun c j => col X q c (8 * k + j)) (tile_load X q k hk inb hoff), hacc, ← prefMax_add]

/-- A tile hands the carry on. -/
theorem tile_carry {acc : FVec Ideal S8x1024 .f32} (hacc : CarryAt X q k acc) :
    CarryAt X q (k + 1)
      (k0_pay4 acc (View.ld (Val := Elt Ideal) (e' := .f32) X (Rect.unit off ![1, 1, 8, 1024] inb))) := fun r c => by
  rw [pay4_apply, tile_value X q k hk inb hoff hacc]
  exact congrArg (prefMax _) (by show 8 * k + (7 + 1) = 8 * (k + 1); omega)

/-- What a tile stores is, where it stores it, the block's prefix maxima. -/
theorem tile_store {acc : FVec Ideal S8x1024 .f32} (hacc : CarryAt X q k acc)
    (x : (Rect.unit (s := S2x1x1024x1024) off ![1, 1, 8, 1024] inb).shape.Idx) :
    k0_pay3 acc (View.ld (Val := Elt Ideal) (e' := .f32) X (Rect.unit off ![1, 1, 8, 1024] inb)) x
      = prefArr X ((Rect.unit (s := S2x1x1024x1024) off ![1, 1, 8, 1024] inb).emb x) := by
  obtain ⟨r, c, rfl⟩ : ∃ (r : Fin 8) (c : Fin 1024), x = ix4 (0 : Fin 1) (0 : Fin 1) r c := by
    refine ⟨x 2, x 3, funext fun a => ?_⟩
    match a with
    | ⟨0, _⟩ => exact Subsingleton.elim (α := Fin 1) _ _
    | ⟨1, _⟩ => exact Subsingleton.elim (α := Fin 1) _ _
    | ⟨2, _⟩ => rfl
    | ⟨3, _⟩ => rfl
  rw [tile_emb q k hk inb hoff r c]
  exact (pay3_apply acc _ r c).trans (tile_value X q k hk inb hoff hacc r c)

end Tile

section Loops

variable (𝒱 : Variants) (c : Dev nD) (bd : Option 𝒱.V) (i : grid0.Coords)
  (arg1 : Memref sig .tc .vmem S2x1x1024x1024 .f32) (harg1 : arg1.IsWhole)
  (arg2 : Memref sig .tc .vmem S2x1x1024x1024 .f32) (harg2 : arg2.IsWhole) (X : FVec Ideal S2x1x1024x1024 .f32)

/-- One trip of the first image's loop, carry and store. -/
theorem trip1 (k : Fin k0_t1_loop.trips) {acc : FVec Ideal S8x1024 .f32} (hacc : CarryAt X 0 k.val acc) :
    CarryAt X 0 (k.val + 1) (tripR_k0_t1 (F := Ideal) 𝒱 c bd i arg1 harg1 arg2 harg2 (harg1.unread X) k acc)
    ∧ ∀ p ∈ tripL_k0_t1 (F := Ideal) 𝒱 c bd i arg1 harg1 arg2 harg2 (harg1.unread X) k acc,
        ∀ x, p.2 x = prefArr X (p.1.emb x) := by
  have hk : k.val < 128 := Nat.lt_of_lt_of_le k.isLt k0_t1_abs.2.1
  have hoff := k0_off1_eq k
  unfold tripR_k0_t1 tripL_k0_t1 trip_k0_t1
  dsimp only
  sl_unfold_words
  simp only [View.readAt_eq_ld, harg1.read_unread]
  refine ⟨tile_carry X 0 k.val hk _ hoff hacc, fun p hp x => ?_⟩
  obtain rfl := List.mem_singleton.mp hp
  exact tile_store X 0 k.val hk _ hoff hacc x

/-- One trip of the second image's loop, carry and store. -/
theorem trip2 (k : Fin k0_t2_loop.trips) {acc : FVec Ideal S8x1024 .f32} (hacc : CarryAt X 1 k.val acc) :
    CarryAt X 1 (k.val + 1) (tripR_k0_t2 (F := Ideal) 𝒱 c bd i arg1 harg1 arg2 harg2 (harg1.unread X) k acc)
    ∧ ∀ p ∈ tripL_k0_t2 (F := Ideal) 𝒱 c bd i arg1 harg1 arg2 harg2 (harg1.unread X) k acc,
        ∀ x, p.2 x = prefArr X (p.1.emb x) := by
  have hk : k.val < 128 := Nat.lt_of_lt_of_le k.isLt k0_t2_abs.2.1
  have hoff := k0_off2_eq k
  unfold tripR_k0_t2 tripL_k0_t2 trip_k0_t2
  dsimp only
  sl_unfold_words
  simp only [View.readAt_eq_ld, harg1.read_unread]
  refine ⟨tile_carry X 1 k.val hk _ hoff hacc, fun p hp x => ?_⟩
  obtain rfl := List.mem_singleton.mp hp
  exact tile_store X 1 k.val hk _ hoff hacc x

/-- The first image's loop before trip `k`: its carry, and that all it stored so far is the block's prefix maxima. -/
theorem state1 : ∀ k : ℕ, k ≤ k0_t1_loop.trips →
    CarryAt X 0 k (st_k0_t1 (F := Ideal) 𝒱 c bd i arg1 harg1 arg2 harg2 (harg1.unread X) k0_pay1 k).1
    ∧ ∀ p ∈ (st_k0_t1 (F := Ideal) 𝒱 c bd i arg1 harg1 arg2 harg2 (harg1.unread X) k0_pay1 k).2,
        ∀ x, p.2 x = prefArr X (p.1.emb x)
  | 0, _ => ⟨carryAt_zero X 0, fun p hp => absurd hp List.not_mem_nil⟩
  | k + 1, hk => by
    obtain ⟨hc, hp⟩ := state1 k (by omega)
    obtain ⟨tc, tp⟩ := trip1 𝒱 c bd i arg1 harg1 arg2 harg2 X ⟨k, hk⟩ hc
    have e := st_k0_t1_succ (F := Ideal) 𝒱 c bd i arg1 harg1 arg2 harg2 (harg1.unread X) k0_pay1 ⟨k, hk⟩
    rw [show k + 1 = (⟨k, hk⟩ : Fin k0_t1_loop.trips).val + 1 from rfl, e]
    exact ⟨tc, fun p h x => (List.mem_append.mp h).elim (fun h => tp p h x) fun h => hp p h x⟩

/-- The second image's loop before trip `k`, likewise. -/
theorem state2 : ∀ k : ℕ, k ≤ k0_t2_loop.trips →
    CarryAt X 1 k (st_k0_t2 (F := Ideal) 𝒱 c bd i arg1 harg1 arg2 harg2 (harg1.unread X) k0_pay5 k).1
    ∧ ∀ p ∈ (st_k0_t2 (F := Ideal) 𝒱 c bd i arg1 harg1 arg2 harg2 (harg1.unread X) k0_pay5 k).2,
        ∀ x, p.2 x = prefArr X (p.1.emb x)
  | 0, _ => ⟨carryAt_zero X 1, fun p hp => absurd hp List.not_mem_nil⟩
  | k + 1, hk => by
    obtain ⟨hc, hp⟩ := state2 k (by omega)
    obtain ⟨tc, tp⟩ := trip2 𝒱 c bd i arg1 harg1 arg2 harg2 X ⟨k, hk⟩ hc
    have e := st_k0_t2_succ (F := Ideal) 𝒱 c bd i arg1 harg1 arg2 harg2 (harg1.unread X) k0_pay5 ⟨k, hk⟩
    rw [show k + 1 = (⟨k, hk⟩ : Fin k0_t2_loop.trips).val + 1 from rfl, e]
    exact ⟨tc, fun p h x => (List.mem_append.mp h).elim (fun h => tp p h x) fun h => hp p h x⟩

end Loops

/-- ONE BLOCK: what a grid point leaves in the output's buffer is the prefix maxima of the block it read. -/
theorem out_eq (c : Dev nD) (i : grid0.Coords) (arg1 : Memref sig .tc .vmem S2x1x1024x1024 .f32) (harg1 : arg1.IsWhole)
    (arg2 : Memref sig .tc .vmem S2x1x1024x1024 .f32) (harg2 : arg2.IsWhole) (X : FVec Ideal S2x1x1024x1024 .f32) :
    out0_A_1 (F := Ideal) c i arg1 harg1 arg2 harg2 X = prefArr X := by
  have hcov := cover0_A_1 (F := Ideal) c i arg1 harg1 arg2 harg2 X
  unfold out0_A_1
  rw [View.read_writes_eq_canon _ _ _ hcov]
  refine funext fun y => View.canon_apply_of_pieces (Val := Elt Ideal) (e := .f32) (prefArr X) _ ?_ y (hcov y)
  unfold kernelRun0_A
  dsimp only
  sl_unfold_words
  intro p hp x
  rcases List.mem_append.mp hp with h | h
  · exact (state2 Variants.none c none i arg1 harg1 arg2 harg2 X _ (le_refl _)).2 p h x
  · exact (state1 Variants.none c none i arg1 harg1 arg2 harg2 X _ (le_refl _)).2 p h x

end CumMax

end
-- ==== Proof.KernelValue.lean ====
/-
  THE WHOLE ARRAY: grid point `t` reads and writes images `2 t` and `2 t + 1`, whole columns of them; so the 16 blocks
  of prefix maxima make the prefix maxima of the array. `run` states what the kernel's run leaves.
-/
module

public import proofs.«01_k».proof.Proof.Block
public import proofs.«01_k».proof.Proof.Gen.KernelIdeal.Value

@[expose] public section

noncomputable section

namespace CumMax.Kernel

open Idealize.ShloMosaic hiding ix2 ix4
open Idealize.ShloMosaic.TcCoe Idealize.ShloMosaic.ValueIdx Idealize.SL.Sem
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

/-- Point `t`'s block of the argument is block `t` of the images, all of each. -/
theorem index0 : ∀ t : Fin cfg0.N, win0_0.index t (0 : Fin 4) = t.val ∧ win0_0.index t (1 : Fin 4) = 0
    ∧ win0_0.index t (2 : Fin 4) = 0 ∧ win0_0.index t (3 : Fin 4) = 0 := (by decide +kernel : ∀ t : Fin grid0.N, _)

/-- Point `t`'s block of the result, likewise. -/
theorem index1 : ∀ t : Fin cfg0.N, win0_1.index t (0 : Fin 4) = t.val ∧ win0_1.index t (1 : Fin 4) = 0
    ∧ win0_1.index t (2 : Fin 4) = 0 ∧ win0_1.index t (3 : Fin 4) = 0 := (by decide +kernel : ∀ t : Fin grid0.N, _)

/-- Image `b` of block `t` is image `2 t + b` of the array. -/
def image (t : Fin cfg0.N) (b : Fin 2) : Fin 32 := ⟨t.val * 2 + b.val, by
  have h1 : t.val < 16 := t.isLt
  omega⟩

/-- Where an index of the argument's block lies in the array. -/
theorem emb0 (t : Fin cfg0.N) (b : Fin 2) (k : Fin 1024) (c : Fin 1024) :
    ((cfg0.win 0).blk t).view.emb (ix4 b (0 : Fin 1) k c) = ix4 (image t b) (0 : Fin 1) k c := by
  obtain ⟨e0, e1, e2, e3⟩ := index0 t
  refine funext fun a => Fin.ext ?_
  match a with
  | ⟨0, _⟩ => show win0_0.index t (0 : Fin 4) * 2 + 1 * b.val = t.val * 2 + b.val; omega
  | ⟨1, _⟩ => show win0_0.index t (1 : Fin 4) * 1 + 1 * 0 = 0; omega
  | ⟨2, _⟩ => show win0_0.index t (2 : Fin 4) * 1024 + 1 * k.val = k.val; omega
  | ⟨3, _⟩ => show win0_0.index t (3 : Fin 4) * 1024 + 1 * c.val = c.val; omega

/-- Where an index of the result's block lies in the array: at the same place. -/
theorem emb1 (t : Fin cfg0.N) (b : Fin 2) (k : Fin 1024) (c : Fin 1024) :
    ((cfg0.win 1).blk t).view.emb (ix4 b (0 : Fin 1) k c) = ix4 (image t b) (0 : Fin 1) k c := by
  obtain ⟨e0, e1, e2, e3⟩ := index1 t
  refine funext fun a => Fin.ext ?_
  match a with
  | ⟨0, _⟩ => show win0_1.index t (0 : Fin 4) * 2 + 1 * b.val = t.val * 2 + b.val; omega
  | ⟨1, _⟩ => show win0_1.index t (1 : Fin 4) * 1 + 1 * 0 = 0; omega
  | ⟨2, _⟩ => show win0_1.index t (2 : Fin 4) * 1024 + 1 * k.val = k.val; omega
  | ⟨3, _⟩ => show win0_1.index t (3 : Fin 4) * 1024 + 1 * c.val = c.val; omega

/-- An index of an array of one-channel images, by its other three coordinates. -/
theorem eq_rows {B : ℕ} (i : (rows B 1024).Idx) : i = ix4 (i 0) (0 : Fin 1) (i 2) (i 3) := by
  funext a
  match a with
  | ⟨0, _⟩ => rfl
  | ⟨1, _⟩ => exact Subsingleton.elim (α := Fin 1) _ _
  | ⟨2, _⟩ => rfl
  | ⟨3, _⟩ => rfl

/-- A column of the block read is the whole column of its image. -/
theorem col_iblk (c : Dev nD) (t : Fin cfg0.N) (b : Fin 2) (q : Fin 1024) (k : ℕ) :
    col (B := 2) (n := 1024) (iblk m c 0 t) b q k
      = col (B := 32) (n := 1024) (m ((c : Thread nD τ).loc main_arg0)) (image t b) q k := by
  unfold col
  by_cases h : k < 1024
  · rw [dif_pos h, dif_pos h]
    exact congrArg (m ((c : Thread nD τ).loc main_arg0)) (emb0 t b ⟨k, h⟩ q)
  · rw [dif_neg h, dif_neg h]

/-- What the run is shown to leave in the result array: the prefix maxima of the argument. -/
abbrev val (c : Dev nD) : Buf (Elt Ideal) ((c : Thread nD τ).loc main_v0) :=
  prefArr (B := 32) (n := 1024) (m ((c : Thread nD τ).loc main_arg0))

/-- Point `t` writes back block `t` of the prefix maxima. -/
theorem flushed_eq (c : Dev nD) (t : Fin cfg0.N) :
    (dats m 0 c).flushed 1 t = ((cfg0.win 1).blk t).view.read (Elt Ideal) (val m c) := by
  rw [flushed1_A, out_eq]
  refine funext fun y => ?_
  show prefArr (B := 2) (n := 1024) (iblk m c 0 t) y = val m c (((cfg0.win 1).blk t).view.emb y)
  obtain ⟨b, k, q, rfl⟩ : ∃ (b : Fin 2) (k : Fin 1024) (q : Fin 1024), y = ix4 b (0 : Fin 1) k q :=
    ⟨y 0, y 2, y 3, eq_rows y⟩
  rw [emb1]
  exact prefMax_congr fun j _ => col_iblk m c t b q j

/-- Every index of the result is in some point's block. -/
theorem cover (i : S32x1x1024x1024.Idx) :
    ∃ t : Fin cfg0.N, (cfg0.win 1).flush t = true ∧ i ∈ ((cfg0.win 1).blk t).view.set := by
  have h0 : (i 0).val < 32 := (i 0).isLt
  let t : Fin cfg0.N := ⟨(i 0).val / 2, by show (i 0).val / 2 < 16; omega⟩
  let b : Fin 2 := ⟨(i 0).val % 2, by omega⟩
  refine ⟨t, flush0_1 _, ?_⟩
  have h := ((cfg0.win 1).blk t).view.emb_mem_set (ix4 b (0 : Fin 1) (i 2) (i 3))
  have e : ix4 (image t b) (0 : Fin 1) (i 2) (i 3) = i := by
    have hb : image t b = i 0 := Fin.ext (by show (i 0).val / 2 * 2 + (i 0).val % 2 = (i 0).val; omega)
    rw [hb]
    exact (eq_rows (B := 32) i).symm
  exact ((emb1 t b (i 2) (i 3)).trans e) ▸ h

/-- The result array after the run is the prefix maxima of the argument. -/
theorem final (c : Dev nD) : (dats m 0 c).arrAt 1 cfg0.N = val m c :=
  (dats m 0 c).arrAt_eq_of_cover 1 (val m c) (fun t _ => flushed_eq m c t) cover

/-- THE KERNEL'S RUN: every execution ends with the prefix maxima of the argument in the result, the argument kept. -/
theorem run : θ_run (defs (F := Ideal)) (onTc (τ := τ) (main (F := Ideal))) ⟨m, fun _ => 0, ρ⟩ fun r => ∀ c : Dev nD,
      r.2.mem ((c : Thread nD τ).loc main_v0) = val m c
      ∧ r.2.mem ((c : Thread nD τ).loc main_arg0) = m ((c : Thread nD τ).loc main_arg0) :=
  (θ_run defs _ _).mono (fun _ h c => ⟨(h c).1.trans (final m c), (h c).2⟩) (run_blocks m ρ)

end CumMax.Kernel

end
-- ==== Proof.RefLevel.lean ====
/-
  ONE LEVEL of the reference's recursion, for any size: if `s` holds the prefix maxima of the pairs of `x`, then what
  the level assembles from `s` and `x` — the odd rows from `s`, the even rows from the row before in `s` and `x` itself,
  the two interleaved by padding with zeros and adding — holds the prefix maxima of `x`.
-/
module

public import proofs.«01_k».proof.Proof.Columns
public import Idealize.ShloMosaic.Lib.KernelVsHost
public import Idealize.ShloMosaic.Lib.Pointwise.Reduce
public import Idealize.ShloMosaic.Lib.ValueIdx
public import Idealize.ShloMosaic.Lib.IdealHost

@[expose] public section

namespace CumMax

open Idealize.ShloMosaic hiding ix2 ix4
open Idealize.ShloMosaic.ValueIdx

/-- The maxima of consecutive pairs of rows, as the reference takes them: two strided slices and their maximum. -/
noncomputable abbrev pairs {B m n : ℕ} (x : (rows B m).Idx → EReal) (he : (rows B m).SlicesBy ![0, 0, 0, 0] ![1, 1, 2, 1] (rows B n))
    (ho : (rows B m).SlicesBy ![0, 0, 1, 0] ![1, 1, 2, 1] (rows B n)) : FVec Ideal (rows B n) .f32 :=
  maximumf (F := Ideal) (φ := .f32) (Host.slice (rows B n) ![0, 0, 0, 0] ![1, 1, 2, 1] x he)
    (Host.slice (rows B n) ![0, 0, 1, 0] ![1, 1, 2, 1] x ho)

/-- A strided slice of every second row from row `o` reads row `o + 2 j`. -/
theorem slice_rows {B m n : ℕ} (o : ℕ) (x : (rows B m).Idx → EReal)
    (h : (rows B m).SlicesBy ![0, 0, o, 0] ![1, 1, 2, 1] (rows B n)) (b : Fin B) (j : Fin n) (c : Fin 1024)
    (hj : o + 2 * j.val < m) :
    Host.slice (rows B n) ![0, 0, o, 0] ![1, 1, 2, 1] x h (ix4 b 0 j c) = col x b c (o + 2 * j.val) := by
  rw [col_of_lt x b c hj]
  unfold Host.slice
  refine congrArg x (funext fun a => Fin.ext ?_)
  match a with
  | ⟨0, _⟩ => show 0 + 1 * b.val = b.val; omega
  | ⟨1, _⟩ => rfl
  | ⟨2, _⟩ => rfl
  | ⟨3, _⟩ => show 0 + 1 * c.val = c.val; omega

/-- Row `j` of the pairs is the maximum of rows `2 j` and `2 j + 1`. -/
theorem pairs_apply {B m n : ℕ} (hm : m = 2 * n) (x : (rows B m).Idx → EReal)
    (he : (rows B m).SlicesBy ![0, 0, 0, 0] ![1, 1, 2, 1] (rows B n))
    (ho : (rows B m).SlicesBy ![0, 0, 1, 0] ![1, 1, 2, 1] (rows B n)) (b : Fin B) (j : Fin n) (c : Fin 1024) :
    pairs x he ho (ix4 b 0 j c) = max (col x b c (2 * j.val)) (col x b c (2 * j.val + 1)) := by
  have hj := j.isLt
  show max (Host.slice (rows B n) ![0, 0, 0, 0] ![1, 1, 2, 1] x he (ix4 b 0 j c))
    (Host.slice (rows B n) ![0, 0, 1, 0] ![1, 1, 2, 1] x ho (ix4 b 0 j c)) = _
  rw [slice_rows 0 x he b j c (by omega), slice_rows 1 x ho b j c (by omega), Nat.zero_add, Nat.add_comm 1]

/-- The prefix maxima of the pairs are every second prefix maximum of the array. -/
theorem IsPrefMax.of_pairs {B m n : ℕ} (hm : m = 2 * n) {x : (rows B m).Idx → EReal}
    {he : (rows B m).SlicesBy ![0, 0, 0, 0] ![1, 1, 2, 1] (rows B n)}
    {ho : (rows B m).SlicesBy ![0, 0, 1, 0] ![1, 1, 2, 1] (rows B n)} {s : (rows B n).Idx → EReal}
    (hs : IsPrefMax (pairs x he ho) s) (b : Fin B) (j : Fin n) (c : Fin 1024) :
    s (ix4 b 0 j c) = prefMax (col x b c) (2 * j.val + 2) := by
  have hj := j.isLt
  rw [hs b j c, show 2 * j.val + 2 = 2 * (j.val + 1) by omega, ← prefMax_pair]
  refine prefMax_congr fun k hk => ?_
  rw [col_of_lt _ b c (show k < n by omega)]
  exact pairs_apply hm x he ho b ⟨k, by omega⟩ c

section Level

variable {B m n p : ℕ} (x : (rows B m).Idx → EReal) (s : (rows B n).Idx → EReal)
  (h0 : (rows B m).Slices ![0, 0, 0, 0] (rows B 1)) (h1 : (rows B n).Slices ![0, 0, 0, 0] (rows B p))
  (h2 : (rows B m).SlicesBy ![0, 0, 2, 0] ![1, 1, 2, 1] (rows B p))
  (h3 : Shape.Concatenates [rows B 1, rows B p] (rows B n) 2)
  (h4 : (rows B n).Pads ![0, 0, 0, 0] ![0, 0, 1, 0] ![0, 0, 1, 0] (rows B m))
  (h5 : (rows B n).Pads ![0, 0, 1, 0] ![0, 0, 0, 0] ![0, 0, 1, 0] (rows B m)) {S0 : Shape} (h6 : 0 < S0.numel)

/-- The even rows of a level's result: row 0 of `x`, then each further even row of `x` with the prefix before it. -/
noncomputable abbrev evens : (rows B n).Idx → Ideal .f32 :=
  concatenate (rows B n) 2 [⟨rows B 1, extractStridedSlice (rows B 1) ![0, 0, 0, 0] x h0⟩,
    ⟨rows B p, maximumf (F := Ideal) (φ := .f32) (extractStridedSlice (rows B p) ![0, 0, 0, 0] s h1)
      (Host.slice (rows B p) ![0, 0, 2, 0] ![1, 1, 2, 1] x h2)⟩] h3

/-- A level's result: the even rows and `s` interleaved, by padding each with zeros in the other's places and adding. -/
noncomputable abbrev level : FVec Ideal (rows B m) .f32 :=
  addf (pad (rows B m) ![0, 0, 0, 0] ![0, 0, 1, 0] ![0, 0, 1, 0] (evens x s h0 h1 h2 h3)
      (constant (F := Ideal) S0 .f32 0x00000000#32) h4 h6)
    (pad (rows B m) ![0, 0, 1, 0] ![0, 0, 0, 0] ![0, 0, 1, 0] s (constant (F := Ideal) S0 .f32 0x00000000#32) h5 h6)

/-- Even row `j` holds the prefix maximum down to row `2 j` of `x`. -/
theorem evens_apply (hm : m = 2 * n) (hp : p + 1 = n)
    (hs : ∀ (b : Fin B) (j : Fin n) (c : Fin 1024), s (ix4 b 0 j c) = prefMax (col x b c) (2 * j.val + 2))
    (b : Fin B) (j : Fin n) (c : Fin 1024) :
    evens x s h0 h1 h2 h3 (ix4 b 0 j c) = prefMax (col x b c) (2 * j.val + 1) := by
  have hj := j.isLt
  rcases Nat.eq_zero_or_pos j.val with h | h
  · have e : prefMax (col x b c) (2 * j.val + 1) = x (ix4 b 0 ⟨0, by omega⟩ c) := by
      rw [h]; exact (prefMax_one _).trans (col_of_lt x b c (by omega))
    refine Eq.trans ?_ e.symm
    refine (concatenate_pair_apply_left 2 _ _ h3 (ix4 b 0 j c) rfl (ix4 b 0 (0 : Fin 1) c) fun a => ?_).trans ?_
    · match a with
      | ⟨0, _⟩ => rfl
      | ⟨1, _⟩ => rfl
      | ⟨2, _⟩ => exact h.symm
      | ⟨3, _⟩ => rfl
    · exact extractStridedSlice_apply ![0, 0, 0, 0] x h0 (ix4 b 0 0 c) (ix4 b 0 ⟨0, by omega⟩ c) fun a => by
        match a with
        | ⟨0, _⟩ => exact (Nat.zero_add _).symm
        | ⟨1, _⟩ => rfl
        | ⟨2, _⟩ => rfl
        | ⟨3, _⟩ => exact (Nat.zero_add _).symm
  · obtain ⟨q, hq⟩ : ∃ q, j.val = q + 1 := ⟨j.val - 1, by omega⟩
    refine (concatenate_pair_apply_right 2 _ _ h3 (ix4 b 0 j c) rfl rfl (ix4 b 0 (⟨q, by omega⟩ : Fin p) c)
      (fun a ha => ?_) hq.symm).trans ?_
    · match a, ha with
      | ⟨0, _⟩, _ => rfl
      | ⟨1, _⟩, _ => rfl
      | ⟨2, _⟩, ha => exact absurd rfl ha
      | ⟨3, _⟩, _ => rfl
    · show max (extractStridedSlice (rows B p) ![0, 0, 0, 0] s h1 (ix4 b 0 (⟨q, by omega⟩ : Fin p) c))
        (Host.slice (rows B p) ![0, 0, 2, 0] ![1, 1, 2, 1] x h2 (ix4 b 0 (⟨q, by omega⟩ : Fin p) c)) = _
      rw [slice_rows 2 x h2 b _ c (show 2 + 2 * q < m by omega),
        extractStridedSlice_apply ![0, 0, 0, 0] s h1 _ (ix4 b 0 (⟨q, by omega⟩ : Fin n) c) (fun a => by
          match a with
          | ⟨0, _⟩ => exact (Nat.zero_add _).symm
          | ⟨1, _⟩ => rfl
          | ⟨2, _⟩ => exact (Nat.zero_add _).symm
          | ⟨3, _⟩ => exact (Nat.zero_add _).symm), hs, hq, show 2 * (q + 1) = 2 * q + 2 by omega,
        prefMax_succ _ (2 * q + 2)]
      show max (prefMax (col x b c) (2 * q + 2)) (col x b c (2 + 2 * q)) = _
      rw [Nat.add_comm 2]

/-- ONE LEVEL: the prefix maxima of the pairs make, by the level's assembly, the prefix maxima of the array. -/
theorem isPrefMax_level (hm : m = 2 * n) (hp : p + 1 = n)
    {he : (rows B m).SlicesBy ![0, 0, 0, 0] ![1, 1, 2, 1] (rows B n)}
    {ho : (rows B m).SlicesBy ![0, 0, 1, 0] ![1, 1, 2, 1] (rows B n)} (hs : IsPrefMax (pairs x he ho) s) :
    IsPrefMax x (level x s h0 h1 h2 h3 h4 h5 h6) := fun b j c => by
  have hs' := hs.of_pairs hm
  have hj := j.isLt
  have hz : constant (F := Ideal) S0 .f32 0x00000000#32 (Shape.Idx.first h6) = (0 : EReal) :=
    Ideal.ofBits_zero_f32
  show pad (rows B m) ![0, 0, 0, 0] ![0, 0, 1, 0] ![0, 0, 1, 0] (evens x s h0 h1 h2 h3)
      (constant (F := Ideal) S0 .f32 0x00000000#32) h4 h6 (ix4 b 0 j c)
    + pad (rows B m) ![0, 0, 1, 0] ![0, 0, 0, 0] ![0, 0, 1, 0] s (constant (F := Ideal) S0 .f32 0x00000000#32) h5 h6
      (ix4 b 0 j c) = (_ : EReal)
  rcases Nat.even_or_odd' j.val with ⟨q, hq | hq⟩
  · rw [pad_apply_of_inside _ _ _ _ _ h4 h6 (ix4 b 0 j c) (ix4 b 0 (⟨q, by omega⟩ : Fin n) c) (fun a => by
        match a with
        | ⟨0, _⟩ => show b.val = 0 + b.val * (0 + 1); omega
        | ⟨1, _⟩ => rfl
        | ⟨2, _⟩ => show j.val = 0 + q * (1 + 1); omega
        | ⟨3, _⟩ => show c.val = 0 + c.val * (0 + 1); omega),
      pad_apply_of_not_inside _ _ _ _ _ h5 h6 (ix4 b 0 j c) 2 (fun h => by
        have ha : 1 ≤ j.val := h.1
        have hb : (j.val - 1) % 2 = 0 := h.2.1
        omega), hz, evens_apply x s h0 h1 h2 h3 hm hp hs', add_zero, hq]
  · rw [pad_apply_of_not_inside _ _ _ _ _ h4 h6 (ix4 b 0 j c) 2 (fun h => by
        have hb : (j.val - 0) % 2 = 0 := h.2.1
        omega), pad_apply_of_inside _ _ _ _ _ h5 h6 (ix4 b 0 j c) (ix4 b 0 (⟨q, by omega⟩ : Fin n) c) (fun a => by
        match a with
        | ⟨0, _⟩ => show b.val = 0 + b.val * (0 + 1); omega
        | ⟨1, _⟩ => rfl
        | ⟨2, _⟩ => show j.val = 1 + q * (1 + 1); omega
        | ⟨3, _⟩ => show c.val = 0 + c.val * (0 + 1); omega), hz, hs', zero_add, hq]

end Level

end CumMax

end
-- ==== Proof.RefTree.lean ====
/-
  THE REFERENCE'S TREE of operations, for any size and any buffers: a level takes the pairs of its rows, runs the levels
  below it on them and assembles its result from theirs. `Scans` says what such a line of operations does; `Scans.level`
  puts one more level around it.
-/
module

public import proofs.«01_k».proof.Proof.RefLevel
public import Idealize.ShloMosaic.Lib.StableHlo.Run

@[expose] public section

noncomputable section

namespace CumMax.Ref

open Idealize.ShloMosaic Idealize.ShloMosaic.TcCoe Idealize.ShloMosaic.StableHlo

/-- The type of an array of 32 images of `n` rows. -/
abbrev Arr (n : ℕ) : BufTy := ⟨rows 32 n, .f32⟩

/-- The shape of a single number. -/
abbrev Dot : Shape := ⟨0, ![]⟩

/-- The shape relations of a level of `m` rows: `n` pairs, and `p` even rows after the first. -/
structure Shapes (m n p : ℕ) : Prop where
  even : (rows 32 m).SlicesBy ![0, 0, 0, 0] ![1, 1, 2, 1] (rows 32 n)
  odd : (rows 32 m).SlicesBy ![0, 0, 1, 0] ![1, 1, 2, 1] (rows 32 n)
  first : (rows 32 m).Slices ![0, 0, 0, 0] (rows 32 1)
  front : (rows 32 n).Slices ![0, 0, 0, 0] (rows 32 p)
  later : (rows 32 m).SlicesBy ![0, 0, 2, 0] ![1, 1, 2, 1] (rows 32 p)
  join : Shape.Concatenates [rows 32 1, rows 32 p] (rows 32 n) 2
  padEven : (rows 32 n).Pads ![0, 0, 0, 0] ![0, 0, 1, 0] ![0, 0, 1, 0] (rows 32 m)
  padOdd : (rows 32 n).Pads ![0, 0, 1, 0] ![0, 0, 0, 0] ![0, 0, 1, 0] (rows 32 m)
  dot : 0 < Dot.numel
  twice : m = 2 * n
  less : p + 1 = n

variable {τ : Topo} {sig : RefSig}

/-- The buffers a level writes: the two slices and the pairs before the levels below run, the others after. -/
structure Bufs (sig : RefSig) (m n p : ℕ) where
  e : TRef sig (Arr n)
  o : TRef sig (Arr n)
  r : TRef sig (Arr n)
  front : TRef sig (Arr p)
  later : TRef sig (Arr p)
  most : TRef sig (Arr p)
  first : TRef sig (Arr 1)
  evens : TRef sig (Arr n)
  z : TRef sig ⟨Dot, .f32⟩
  padE : TRef sig (Arr m)
  z' : TRef sig ⟨Dot, .f32⟩
  padO : TRef sig (Arr m)
  out : TRef sig (Arr m)

variable {m n p : ℕ}

/-- The operations before the levels below: the even rows, the odd rows and their maximum. -/
def downOps (S : Shapes m n p) (B : Bufs sig m n p) (x : TRef sig (Arr m)) : List (HloOp τ sig (Elt Ideal)) :=
  [ TRef.unary x B.e (fun v => Host.slice (rows 32 n) ![0, 0, 0, 0] ![1, 1, 2, 1] v S.even),
    TRef.unary x B.o (fun v => Host.slice (rows 32 n) ![0, 0, 1, 0] ![1, 1, 2, 1] v S.odd),
    TRef.binary B.e B.o B.r (maximumf (F := Ideal) (φ := .f32)) ]

/-- The first row and the even rows after it, one under the other. A function by name, so that its two operands can be
    rewritten where they stand. -/
def joined (S : Shapes m n p) (a : (Arr 1).Contents (Elt Ideal)) (b : (Arr p).Contents (Elt Ideal)) :
    (Arr n).Contents (Elt Ideal) :=
  concatenate (rows 32 n) 2 [⟨rows 32 1, a⟩, ⟨rows 32 p, b⟩] S.join

/-- The operations after them: the even rows' prefix maxima, and both interleaved. -/
def upOps (S : Shapes m n p) (B : Bufs sig m n p) (x : TRef sig (Arr m)) (s : TRef sig (Arr n)) :
    List (HloOp τ sig (Elt Ideal)) :=
  [ TRef.unary s B.front (fun v => extractStridedSlice (rows 32 p) ![0, 0, 0, 0] v S.front),
    TRef.unary x B.later (fun v => Host.slice (rows 32 p) ![0, 0, 2, 0] ![1, 1, 2, 1] v S.later),
    TRef.binary B.front B.later B.most (maximumf (F := Ideal) (φ := .f32)),
    TRef.unary x B.first (fun v => extractStridedSlice (rows 32 1) ![0, 0, 0, 0] v S.first),
    TRef.binary B.first B.most B.evens (joined S),
    TRef.nullary B.z (constant (F := Ideal) Dot .f32 0x00000000#32),
    TRef.binary B.evens B.z B.padE
      (fun a v => pad (rows 32 m) ![0, 0, 0, 0] ![0, 0, 1, 0] ![0, 0, 1, 0] a v S.padEven S.dot),
    TRef.nullary B.z' (constant (F := Ideal) Dot .f32 0x00000000#32),
    TRef.binary s B.z' B.padO
      (fun a v => pad (rows 32 m) ![0, 0, 1, 0] ![0, 0, 0, 0] ![0, 0, 1, 0] a v S.padOdd S.dot),
    TRef.binary B.padE B.padO B.out (addf (F := Ideal) (φ := .f32)) ]

/-- The references the operations before write, in order. -/
def Bufs.down (B : Bufs sig m n p) : List (Ref sig .tc) := [B.e.ref, B.o.ref, B.r.ref]

/-- The references the operations after write, in order. -/
def Bufs.up (B : Bufs sig m n p) : List (Ref sig .tc) :=
  [B.front.ref, B.later.ref, B.most.ref, B.first.ref, B.evens.ref, B.z.ref, B.padE.ref, B.z'.ref, B.padO.ref, B.out.ref]

/-- What a valuation holds at a typed reference. -/
abbrev at' {T : BufTy} (V : Valuation τ sig (Elt Ideal)) (x : TRef sig T) : T.Contents (Elt Ideal) :=
  x.ofBuf (V (Proc.devRef .tc x.ref))

/-- The operations before leave the pairs of `x` in `r`. -/
theorem after_down (S : Shapes m n p) (B : Bufs sig m n p) (x : TRef sig (Arr m)) (V : Valuation τ sig (Elt Ideal))
    (hN : (x.ref :: B.down).Nodup) : at' (after (downOps S B x) V) B.r = pairs (at' V x) S.even S.odd := by
  simp only [Bufs.down, List.nodup_cons, List.mem_cons, not_or, List.not_mem_nil, not_false_eq_true, and_true] at hN
  obtain ⟨⟨hxe, hxo, hxr⟩, ⟨heo, her⟩, hor, -⟩ := hN
  simp (disch := assumption) only [at', downOps, after_cons, after_nil, binary_result', unary_result',
    unary_result_ne', binary_result_ne', TRef.ofBuf_toBuf]

/-- The operations after leave the level's result in `out`. -/
theorem after_up (S : Shapes m n p) (B : Bufs sig m n p) (x : TRef sig (Arr m)) (s : TRef sig (Arr n))
    (V : Valuation τ sig (Elt Ideal)) (hx : x.ref ∉ B.up) (hs : s.ref ∉ B.up) (hN : B.up.Nodup) :
    at' (after (upOps S B x s) V) B.out = level (at' V x) (at' V s) S.first S.front S.later S.join S.padEven S.padOdd
      S.dot := by
  simp only [Bufs.up, List.nodup_cons, List.mem_cons, not_or, List.not_mem_nil, not_false_eq_true, and_true] at hx hs hN
  obtain ⟨x0, x1, x2, x3, x4, x5, x6, x7, x8, x9⟩ := hx
  obtain ⟨s0, s1, s2, s3, s4, s5, s6, s7, s8, s9⟩ := hs
  obtain ⟨⟨a1, a2, a3, a4, a5, a6, a7, a8, a9⟩, ⟨b2, b3, b4, b5, b6, b7, b8, b9⟩, ⟨c3, c4, c5, c6, c7, c8, c9⟩,
    ⟨d4, d5, d6, d7, d8, d9⟩, ⟨e5, e6, e7, e8, e9⟩, ⟨f6, f7, f8, f9⟩, ⟨g7, g8, g9⟩, ⟨h8, h9⟩, i9, -⟩ := hN
  simp (disch := assumption) only [at', upOps, after_cons, after_nil, binary_result', unary_result', nullary_result',
    unary_result_ne', binary_result_ne', nullary_result_ne', TRef.ofBuf_toBuf]
  rfl

/-- The line `ops`, which writes the references `W`, leaves in `s` the prefix maxima of what `x` held. -/
structure Scans (ops : List (HloOp τ sig (Elt Ideal))) (x s : TRef sig (Arr n)) (W : List (Ref sig .tc)) : Prop where
  value : ∀ V : Valuation τ sig (Elt Ideal), IsPrefMax (at' V x) (at' (after ops V) s)
  writes : ops.map HloOp.writes = W.map fun w => {Proc.devRef (τ := τ) .tc w}
  bufs : ops.Forall fun op => op.bufs ⊆ tcRefs τ sig
  fresh : ops.Forall fun op => op.fresh = ∅

/-- A reference the line does not write keeps its contents. -/
theorem Scans.keeps {ops : List (HloOp τ sig (Elt Ideal))} {x s : TRef sig (Arr n)} {W : List (Ref sig .tc)}
    (h : Scans ops x s W) {T : BufTy} {t : TRef sig T} (ht : t.ref ∉ W) (V : Valuation τ sig (Elt Ideal)) :
    at' (after ops V) t = at' V t :=
  congrArg t.ofBuf (after_of_writes_sub ops V (forall_writes_sub_of_map h.writes) ht)

/-- One row is its own prefix maximum: nothing is to be done. -/
theorem Scans.one (x : TRef sig (Arr 1)) : Scans (τ := τ) [] x x [] :=
  ⟨fun V => isPrefMax_one (at' V x), rfl, trivial, trivial⟩

/-- Running one line and then another. -/
theorem after_app (l₁ l₂ : List (HloOp τ sig (Elt Ideal))) (V : Valuation τ sig (Elt Ideal)) :
    after (l₁ ++ l₂) V = after l₂ (after l₁ V) := by
  induction l₁ generalizing V with
  | nil => rfl
  | cons op l₁ ih => exact ih _

/-- ONE MORE LEVEL: around a line that finds the prefix maxima of the pairs, the operations before and after make a line
    that finds those of the rows, when no buffer is written twice or too early. -/
theorem Scans.level {ops : List (HloOp τ sig (Elt Ideal))} {s : TRef sig (Arr n)} {W : List (Ref sig .tc)}
    (S : Shapes m n p) (B : Bufs sig m n p) (x : TRef sig (Arr m)) (h : Scans ops B.r s W)
    (hd : (x.ref :: B.down).Nodup) (hW : x.ref ∉ W) (hx : x.ref ∉ B.up) (hs : s.ref ∉ B.up) (hu : B.up.Nodup) :
    Scans (downOps S B x ++ (ops ++ upOps S B x s)) x B.out (B.down ++ (W ++ B.up)) where
  value V := by
    have hk : at' (after (downOps S B x) V) x = at' V x := congrArg x.ofBuf
      (after_of_writes_sub (W := B.down) _ V (forall_writes_sub_of_map rfl) (List.nodup_cons.mp hd).1)
    have hv := h.value (after (downOps S B x) V)
    rw [after_down S B x V hd] at hv
    rw [after_app, after_app, after_up S B x s _ hx hs hu, h.keeps hW, hk]
    exact isPrefMax_level _ _ _ _ _ _ _ _ _ S.twice S.less hv
  writes := by rw [List.map_append, List.map_append, h.writes, List.map_append, List.map_append]; rfl
  bufs := by
    simp only [List.forall_append]
    exact ⟨⟨unary_bufs_sub .., unary_bufs_sub .., binary_bufs_sub ..⟩, h.bufs,
      ⟨unary_bufs_sub .., unary_bufs_sub .., binary_bufs_sub .., unary_bufs_sub .., binary_bufs_sub ..,
        nullary_bufs_sub .., binary_bufs_sub .., nullary_bufs_sub .., binary_bufs_sub .., binary_bufs_sub ..⟩⟩
  fresh := by
    simp only [List.forall_append]
    exact ⟨⟨rfl, rfl, rfl⟩, h.fresh, ⟨rfl, rfl, rfl, rfl, rfl, rfl, rfl, rfl, rfl, rfl⟩⟩

end CumMax.Ref

end
-- ==== Proof.RefValue.lean ====
/-
  THE REFERENCE: its ten levels, on 2, 4, …, 1024 rows, at the program's own buffers, each around the one before. `run`
  states what the reference's run leaves.
-/
module

public import proofs.«01_k».proof.Proof.RefTree
public import proofs.«01_k».proof.Proof.Gen.ReferenceIdeal

@[expose] public section

noncomputable section

namespace CumMax.Ref

open Idealize.ShloMosaic Idealize.ShloMosaic.TcCoe Idealize.SL.Sem Idealize.ShloMosaic.StableHlo
open Cert.ReferenceIdeal Cert.ReferenceIdeal.Gen

/-- A line of the reference's operations. -/
abbrev Line : Type := List (HloOp τ sig (Elt Ideal))

/-- The one row the levels end at. -/
abbrev x1 : TRef sig (Arr 1) := .of main_v29

/-- The 2 rows a level starts from. -/
abbrev x2 : TRef sig (Arr 2) := .of main_v26

/-- The 4 rows a level starts from. -/
abbrev x4 : TRef sig (Arr 4) := .of main_v23

/-- The 8 rows a level starts from. -/
abbrev x8 : TRef sig (Arr 8) := .of main_v20

/-- The 16 rows a level starts from. -/
abbrev x16 : TRef sig (Arr 16) := .of main_v17

/-- The 32 rows a level starts from. -/
abbrev x32 : TRef sig (Arr 32) := .of main_v14

/-- The 64 rows a level starts from. -/
abbrev x64 : TRef sig (Arr 64) := .of main_v11

/-- The 128 rows a level starts from. -/
abbrev x128 : TRef sig (Arr 128) := .of main_v8

/-- The 256 rows a level starts from. -/
abbrev x256 : TRef sig (Arr 256) := .of main_v5

/-- The 512 rows a level starts from. -/
abbrev x512 : TRef sig (Arr 512) := .of main_v2

/-- The 1024 rows a level starts from. -/
abbrev x1024 : TRef sig (Arr 1024) := .of main_arg0

/-- The level of 2 rows: its shape relations. -/
theorem shapes2 : Shapes 2 1 0 :=
  ⟨slicesBy_S32x1x2x1024_S32x1x1x1024_0s1_0s1_0s2_0s1, slicesBy_S32x1x2x1024_S32x1x1x1024_0s1_0s1_1s2_0s1,
    slices_S32x1x2x1024_S32x1x1x1024_0_0_0_0, slices_S32x1x1x1024_S32x1x0x1024_0_0_0_0,
    slicesBy_S32x1x2x1024_S32x1x0x1024_0s1_0s1_2s2_0s1, concatenates_S32x1x1x1024_S32x1x0x1024_S32x1x1x1024_d2,
    pads_S32x1x1x1024_S32x1x2x1024_000_000_011_000, pads_S32x1x1x1024_S32x1x2x1024_000_000_101_000, h_S_, rfl, rfl⟩

/-- The buffers it writes. -/
abbrev b2 : Bufs sig 2 1 0 :=
  ⟨.of main_v27, .of main_v28, x1, .of main_v30, .of main_v31, .of main_v32, .of main_v33, .of main_v34,
    .of main_cst, .of main_v35, .of main_cst_0, .of main_v36, .of main_v37⟩

/-- Its operations, around those of the level below. -/
abbrev ops2 : Line := downOps shapes2 b2 x2 ++ ([] ++ upOps shapes2 b2 x2 x1)

/-- The references they write. -/
abbrev w2 : List (Ref sig .tc) := b2.down ++ ([] ++ b2.up)

/-- They find the prefix maxima of 2 rows. -/
theorem scans2 : Scans ops2 x2 b2.out w2 :=
  Scans.level shapes2 b2 x2 (Scans.one x1) (by decide) (by decide) (by decide) (by decide) (by decide)

/-- The level of 4 rows: its shape relations. -/
theorem shapes4 : Shapes 4 2 1 :=
  ⟨slicesBy_S32x1x4x1024_S32x1x2x1024_0s1_0s1_0s2_0s1, slicesBy_S32x1x4x1024_S32x1x2x1024_0s1_0s1_1s2_0s1,
    slices_S32x1x4x1024_S32x1x1x1024_0_0_0_0, slices_S32x1x2x1024_S32x1x1x1024_0_0_0_0,
    slicesBy_S32x1x4x1024_S32x1x1x1024_0s1_0s1_2s2_0s1, concatenates_S32x1x1x1024_S32x1x1x1024_S32x1x2x1024_d2,
    pads_S32x1x2x1024_S32x1x4x1024_000_000_011_000, pads_S32x1x2x1024_S32x1x4x1024_000_000_101_000, h_S_, rfl, rfl⟩

/-- The buffers it writes. -/
abbrev b4 : Bufs sig 4 2 1 :=
  ⟨.of main_v24, .of main_v25, x2, .of main_v38, .of main_v39, .of main_v40, .of main_v41, .of main_v42,
    .of main_cst_1, .of main_v43, .of main_cst_2, .of main_v44, .of main_v45⟩

/-- Its operations, around those of the level below. -/
abbrev ops4 : Line := downOps shapes4 b4 x4 ++ (ops2 ++ upOps shapes4 b4 x4 b2.out)

/-- The references they write. -/
abbrev w4 : List (Ref sig .tc) := b4.down ++ (w2 ++ b4.up)

/-- They find the prefix maxima of 4 rows. -/
theorem scans4 : Scans ops4 x4 b4.out w4 :=
  Scans.level shapes4 b4 x4 scans2 (by decide) (by decide) (by decide) (by decide) (by decide)

/-- The level of 8 rows: its shape relations. -/
theorem shapes8 : Shapes 8 4 3 :=
  ⟨slicesBy_S32x1x8x1024_S32x1x4x1024_0s1_0s1_0s2_0s1, slicesBy_S32x1x8x1024_S32x1x4x1024_0s1_0s1_1s2_0s1,
    slices_S32x1x8x1024_S32x1x1x1024_0_0_0_0, slices_S32x1x4x1024_S32x1x3x1024_0_0_0_0,
    slicesBy_S32x1x8x1024_S32x1x3x1024_0s1_0s1_2s2_0s1, concatenates_S32x1x1x1024_S32x1x3x1024_S32x1x4x1024_d2,
    pads_S32x1x4x1024_S32x1x8x1024_000_000_011_000, pads_S32x1x4x1024_S32x1x8x1024_000_000_101_000, h_S_, rfl, rfl⟩

/-- The buffers it writes. -/
abbrev b8 : Bufs sig 8 4 3 :=
  ⟨.of main_v21, .of main_v22, x4, .of main_v46, .of main_v47, .of main_v48, .of main_v49, .of main_v50,
    .of main_cst_3, .of main_v51, .of main_cst_4, .of main_v52, .of main_v53⟩

/-- Its operations, around those of the level below. -/
abbrev ops8 : Line := downOps shapes8 b8 x8 ++ (ops4 ++ upOps shapes8 b8 x8 b4.out)

/-- The references they write. -/
abbrev w8 : List (Ref sig .tc) := b8.down ++ (w4 ++ b8.up)

/-- They find the prefix maxima of 8 rows. -/
theorem scans8 : Scans ops8 x8 b8.out w8 :=
  Scans.level shapes8 b8 x8 scans4 (by decide) (by decide) (by decide) (by decide) (by decide)

/-- The level of 16 rows: its shape relations. -/
theorem shapes16 : Shapes 16 8 7 :=
  ⟨slicesBy_S32x1x16x1024_S32x1x8x1024_0s1_0s1_0s2_0s1, slicesBy_S32x1x16x1024_S32x1x8x1024_0s1_0s1_1s2_0s1,
    slices_S32x1x16x1024_S32x1x1x1024_0_0_0_0, slices_S32x1x8x1024_S32x1x7x1024_0_0_0_0,
    slicesBy_S32x1x16x1024_S32x1x7x1024_0s1_0s1_2s2_0s1, concatenates_S32x1x1x1024_S32x1x7x1024_S32x1x8x1024_d2,
    pads_S32x1x8x1024_S32x1x16x1024_000_000_011_000, pads_S32x1x8x1024_S32x1x16x1024_000_000_101_000, h_S_, rfl, rfl⟩

/-- The buffers it writes. -/
abbrev b16 : Bufs sig 16 8 7 :=
  ⟨.of main_v18, .of main_v19, x8, .of main_v54, .of main_v55, .of main_v56, .of main_v57, .of main_v58,
    .of main_cst_5, .of main_v59, .of main_cst_6, .of main_v60, .of main_v61⟩

/-- Its operations, around those of the level below. -/
abbrev ops16 : Line := downOps shapes16 b16 x16 ++ (ops8 ++ upOps shapes16 b16 x16 b8.out)

/-- The references they write. -/
abbrev w16 : List (Ref sig .tc) := b16.down ++ (w8 ++ b16.up)

/-- They find the prefix maxima of 16 rows. -/
theorem scans16 : Scans ops16 x16 b16.out w16 :=
  Scans.level shapes16 b16 x16 scans8 (by decide) (by decide) (by decide) (by decide) (by decide)

/-- The level of 32 rows: its shape relations. -/
theorem shapes32 : Shapes 32 16 15 :=
  ⟨slicesBy_S32x1x32x1024_S32x1x16x1024_0s1_0s1_0s2_0s1, slicesBy_S32x1x32x1024_S32x1x16x1024_0s1_0s1_1s2_0s1,
    slices_S32x1x32x1024_S32x1x1x1024_0_0_0_0, slices_S32x1x16x1024_S32x1x15x1024_0_0_0_0,
    slicesBy_S32x1x32x1024_S32x1x15x1024_0s1_0s1_2s2_0s1, concatenates_S32x1x1x1024_S32x1x15x1024_S32x1x16x1024_d2,
    pads_S32x1x16x1024_S32x1x32x1024_000_000_011_000, pads_S32x1x16x1024_S32x1x32x1024_000_000_101_000, h_S_, rfl,
    rfl⟩

/-- The buffers it writes. -/
abbrev b32 : Bufs sig 32 16 15 :=
  ⟨.of main_v15, .of main_v16, x16, .of main_v62, .of main_v63, .of main_v64, .of main_v65, .of main_v66,
    .of main_cst_7, .of main_v67, .of main_cst_8, .of main_v68, .of main_v69⟩

/-- Its operations, around those of the level below. -/
abbrev ops32 : Line := downOps shapes32 b32 x32 ++ (ops16 ++ upOps shapes32 b32 x32 b16.out)

/-- The references they write. -/
abbrev w32 : List (Ref sig .tc) := b32.down ++ (w16 ++ b32.up)

/-- They find the prefix maxima of 32 rows. -/
theorem scans32 : Scans ops32 x32 b32.out w32 :=
  Scans.level shapes32 b32 x32 scans16 (by decide) (by decide) (by decide) (by decide) (by decide)

/-- The level of 64 rows: its shape relations. -/
theorem shapes64 : Shapes 64 32 31 :=
  ⟨slicesBy_S32x1x64x1024_S32x1x32x1024_0s1_0s1_0s2_0s1, slicesBy_S32x1x64x1024_S32x1x32x1024_0s1_0s1_1s2_0s1,
    slices_S32x1x64x1024_S32x1x1x1024_0_0_0_0, slices_S32x1x32x1024_S32x1x31x1024_0_0_0_0,
    slicesBy_S32x1x64x1024_S32x1x31x1024_0s1_0s1_2s2_0s1, concatenates_S32x1x1x1024_S32x1x31x1024_S32x1x32x1024_d2,
    pads_S32x1x32x1024_S32x1x64x1024_000_000_011_000, pads_S32x1x32x1024_S32x1x64x1024_000_000_101_000, h_S_, rfl,
    rfl⟩

/-- The buffers it writes. -/
abbrev b64 : Bufs sig 64 32 31 :=
  ⟨.of main_v12, .of main_v13, x32, .of main_v70, .of main_v71, .of main_v72, .of main_v73, .of main_v74,
    .of main_cst_9, .of main_v75, .of main_cst_10, .of main_v76, .of main_v77⟩

/-- Its operations, around those of the level below. -/
abbrev ops64 : Line := downOps shapes64 b64 x64 ++ (ops32 ++ upOps shapes64 b64 x64 b32.out)

/-- The references they write. -/
abbrev w64 : List (Ref sig .tc) := b64.down ++ (w32 ++ b64.up)

/-- They find the prefix maxima of 64 rows. -/
theorem scans64 : Scans ops64 x64 b64.out w64 :=
  Scans.level shapes64 b64 x64 scans32 (by decide) (by decide) (by decide) (by decide) (by decide)

/-- The level of 128 rows: its shape relations. -/
theorem shapes128 : Shapes 128 64 63 :=
  ⟨slicesBy_S32x1x128x1024_S32x1x64x1024_0s1_0s1_0s2_0s1, slicesBy_S32x1x128x1024_S32x1x64x1024_0s1_0s1_1s2_0s1,
    slices_S32x1x128x1024_S32x1x1x1024_0_0_0_0, slices_S32x1x64x1024_S32x1x63x1024_0_0_0_0,
    slicesBy_S32x1x128x1024_S32x1x63x1024_0s1_0s1_2s2_0s1, concatenates_S32x1x1x1024_S32x1x63x1024_S32x1x64x1024_d2,
    pads_S32x1x64x1024_S32x1x128x1024_000_000_011_000, pads_S32x1x64x1024_S32x1x128x1024_000_000_101_000, h_S_, rfl,
    rfl⟩

/-- The buffers it writes. -/
abbrev b128 : Bufs sig 128 64 63 :=
  ⟨.of main_v9, .of main_v10, x64, .of main_v78, .of main_v79, .of main_v80, .of main_v81, .of main_v82,
    .of main_cst_11, .of main_v83, .of main_cst_12, .of main_v84, .of main_v85⟩

/-- Its operations, around those of the level below. -/
abbrev ops128 : Line := downOps shapes128 b128 x128 ++ (ops64 ++ upOps shapes128 b128 x128 b64.out)

/-- The references they write. -/
abbrev w128 : List (Ref sig .tc) := b128.down ++ (w64 ++ b128.up)

/-- They find the prefix maxima of 128 rows. -/
theorem scans128 : Scans ops128 x128 b128.out w128 :=
  Scans.level shapes128 b128 x128 scans64 (by decide) (by decide) (by decide) (by decide) (by decide)

/-- The level of 256 rows: its shape relations. -/
theorem shapes256 : Shapes 256 128 127 :=
  ⟨slicesBy_S32x1x256x1024_S32x1x128x1024_0s1_0s1_0s2_0s1, slicesBy_S32x1x256x1024_S32x1x128x1024_0s1_0s1_1s2_0s1,
    slices_S32x1x256x1024_S32x1x1x1024_0_0_0_0, slices_S32x1x128x1024_S32x1x127x1024_0_0_0_0,
    slicesBy_S32x1x256x1024_S32x1x127x1024_0s1_0s1_2s2_0s1,
    concatenates_S32x1x1x1024_S32x1x127x1024_S32x1x128x1024_d2, pads_S32x1x128x1024_S32x1x256x1024_000_000_011_000,
    pads_S32x1x128x1024_S32x1x256x1024_000_000_101_000, h_S_, rfl, rfl⟩

/-- The buffers it writes. -/
abbrev b256 : Bufs sig 256 128 127 :=
  ⟨.of main_v6, .of main_v7, x128, .of main_v86, .of main_v87, .of main_v88, .of main_v89, .of main_v90,
    .of main_cst_13, .of main_v91, .of main_cst_14, .of main_v92, .of main_v93⟩

/-- Its operations, around those of the level below. -/
abbrev ops256 : Line := downOps shapes256 b256 x256 ++ (ops128 ++ upOps shapes256 b256 x256 b128.out)

/-- The references they write. -/
abbrev w256 : List (Ref sig .tc) := b256.down ++ (w128 ++ b256.up)

/-- They find the prefix maxima of 256 rows. -/
theorem scans256 : Scans ops256 x256 b256.out w256 :=
  Scans.level shapes256 b256 x256 scans128 (by decide) (by decide) (by decide) (by decide) (by decide)

/-- The level of 512 rows: its shape relations. -/
theorem shapes512 : Shapes 512 256 255 :=
  ⟨slicesBy_S32x1x512x1024_S32x1x256x1024_0s1_0s1_0s2_0s1, slicesBy_S32x1x512x1024_S32x1x256x1024_0s1_0s1_1s2_0s1,
    slices_S32x1x512x1024_S32x1x1x1024_0_0_0_0, slices_S32x1x256x1024_S32x1x255x1024_0_0_0_0,
    slicesBy_S32x1x512x1024_S32x1x255x1024_0s1_0s1_2s2_0s1,
    concatenates_S32x1x1x1024_S32x1x255x1024_S32x1x256x1024_d2, pads_S32x1x256x1024_S32x1x512x1024_000_000_011_000,
    pads_S32x1x256x1024_S32x1x512x1024_000_000_101_000, h_S_, rfl, rfl⟩

/-- The buffers it writes. -/
abbrev b512 : Bufs sig 512 256 255 :=
  ⟨.of main_v3, .of main_v4, x256, .of main_v94, .of main_v95, .of main_v96, .of main_v97, .of main_v98,
    .of main_cst_15, .of main_v99, .of main_cst_16, .of main_v100, .of main_v101⟩

/-- Its operations, around those of the level below. -/
abbrev ops512 : Line := downOps shapes512 b512 x512 ++ (ops256 ++ upOps shapes512 b512 x512 b256.out)

/-- The references they write. -/
abbrev w512 : List (Ref sig .tc) := b512.down ++ (w256 ++ b512.up)

/-- They find the prefix maxima of 512 rows. -/
theorem scans512 : Scans ops512 x512 b512.out w512 :=
  Scans.level shapes512 b512 x512 scans256 (by decide) (by decide) (by decide) (by decide) (by decide)

/-- The level of 1024 rows: its shape relations. -/
theorem shapes1024 : Shapes 1024 512 511 :=
  ⟨slicesBy_S32x1x1024x1024_S32x1x512x1024_0s1_0s1_0s2_0s1, slicesBy_S32x1x1024x1024_S32x1x512x1024_0s1_0s1_1s2_0s1,
    slices_S32x1x1024x1024_S32x1x1x1024_0_0_0_0, slices_S32x1x512x1024_S32x1x511x1024_0_0_0_0,
    slicesBy_S32x1x1024x1024_S32x1x511x1024_0s1_0s1_2s2_0s1,
    concatenates_S32x1x1x1024_S32x1x511x1024_S32x1x512x1024_d2, pads_S32x1x512x1024_S32x1x1024x1024_000_000_011_000,
    pads_S32x1x512x1024_S32x1x1024x1024_000_000_101_000, h_S_, rfl, rfl⟩

/-- The buffers it writes. -/
abbrev b1024 : Bufs sig 1024 512 511 :=
  ⟨.of main_v0, .of main_v1, x512, .of main_v102, .of main_v103, .of main_v104, .of main_v105, .of main_v106,
    .of main_cst_17, .of main_v107, .of main_cst_18, .of main_v108, .of main_v109⟩

/-- Its operations, around those of the level below. -/
abbrev ops1024 : Line := downOps shapes1024 b1024 x1024 ++ (ops512 ++ upOps shapes1024 b1024 x1024 b512.out)

/-- The references they write. -/
abbrev w1024 : List (Ref sig .tc) := b1024.down ++ (w512 ++ b1024.up)

/-- They find the prefix maxima of 1024 rows. -/
theorem scans1024 : Scans ops1024 x1024 b1024.out w1024 :=
  Scans.level shapes1024 b1024 x1024 scans512 (by decide) (by decide) (by decide) (by decide) (by decide)

/-- The reference is the line of its largest level. -/
theorem main_seq (c : Dev nD) : main (F := Ideal) c = seq ops1024 := rfl

/-- No buffer of the reference is scoped, -/
theorem no_scoped_ref : (Finset.univ.filter fun b : Ref sig .tc => b.isScoped) = ∅ := by decide

/-- and no semaphore. -/
theorem no_scoped_sem : (Finset.univ.filter fun sm : SemLoc sig => sm.isScoped .tc) = ∅ := by decide

/-- THE REFERENCE'S RUN: every run ends, with the prefix maxima of the argument in its result and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v109)
        = prefArr (B := 32) (n := 1024) (m ((c.tc : Thread nD τ).loc main_arg0))
      ∧ r.2.mem ((c.tc : Thread nD τ).loc main_arg0) = m ((c.tc : Thread nD τ).loc main_arg0) :=
  (θ_run defs _ _).mono (fun _ h c =>
      ⟨(h c main_v109).trans (scans1024.value (launchContents m c)).eq,
        (h c main_arg0).trans (scans1024.keeps (t := x1024) (by decide) (launchContents m c))⟩)
    (run_seq no_scoped_ref no_scoped_sem defs main (fun _ => ops1024) main_seq (fun _ => scans1024.bufs) m ρ
      fun _ op h => List.forall_iff_forall_mem.mp scans1024.fresh op h)

end CumMax.Ref

end
-- ==== Proof.lean ====
/-
  THE CLAIM: the kernel, its ideal reading and the reference each end with nothing but their results changed; the ideal
  reading is the kernel's own text; and over the extended reals kernel and reference leave the same array, the running
  maximum down each column.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The five claims: three frames, the preservation (there is nothing to preserve: no operation was replaced) and the
    equality of the two results. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2, Idealize.ShloMosaic.sem_eq_zero_of_no_sems (by decide) r.2⟩) (CumMax.Ref.run m ρ),
  trivial, by
    intro m g m' g' _ hagree
    refine ⟨fun c => CumMax.Kernel.val m c, CumMax.Kernel.run m g, ?_⟩
    refine (θ_run Cert.ReferenceIdeal.defs _ _).mono (fun r h c => ⟨(h c).1.trans ?_, (h c).2⟩) (CumMax.Ref.run m' g')
    exact congrArg (CumMax.prefArr (B := 32) (n := 1024)) (hagree c)⟩

end Cert.Proof

end
